-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S512x1 : Shape := ⟨2, ![512, 1]⟩
abbrev S2 : Shape := ⟨1, ![2]⟩
abbrev S_ : Shape := ⟨0, ![]⟩
abbrev S256x256 : Shape := ⟨2, ![256, 256]⟩
abbrev S256 : Shape := ⟨1, ![256]⟩
abbrev S256x1 : Shape := ⟨2, ![256, 1]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x1, .f32⟩
  | .local _ .vmem, ⟨0, _⟩ => ⟨S512x256, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v19 : BitVec 32 := Scalar.muli v2 c2_i32_12
  let v20 : BitVec 32 := Scalar.addi c0_i32_13 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v21 : BitVec 32 := Scalar.muli v6 c1_i32_14
  let v22 : BitVec 32 := Scalar.addi v20 v21
  v22.toNat
def k0_dev3 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v36 : BitVec 32 := Scalar.muli v2 c2_i32_25
  let v37 : BitVec 32 := Scalar.addi c0_i32_26 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v38 : BitVec 32 := Scalar.muli v6 c1_i32_27
  let v39 : BitVec 32 := Scalar.addi v37 v38
  v39.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 7
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S_, .f32⟩
  | .hbm, ⟨5, _⟩ => ⟨S1024x1, .f32⟩
  | .hbm, ⟨6, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Halves.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

/-!
# The two halves of a 512-row column

The kernel works on columns of 512 rows in two halves of 256 rows.  This module names the two
halves as rectangles, says that they are disjoint and cover the column, and describes a column by
the pair of its halves (`stack`).
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode
open scoped Idealize.SL.BI

/-! ## The rectangles -/

/-- The first cell of half `k` of a column. -/
abbrev corner : Fin 2 → Fin 2 → ℕ := fun | 0 => ![0, 0] | 1 => ![256, 0]

/-- Half `k` lies inside the column. -/
theorem corner_fits : (k : Fin 2) → ∀ a, corner k a + S256x1.size a ≤ S512x1.size a
  | 0 => inb_S512x1_S256x1_0_0
  | 1 => inb_S512x1_S256x1_256_0

/-- The rows of half `k` of a column. -/
abbrev rows (k : Fin 2) : Rect S512x1 := Rect.unit (s := S512x1) (corner k) S256x1.size (corner_fits k)

/-- A cell lies in half `k` exactly when its row lies in the `k`-th run of 256 rows. -/
theorem mem_rows (k : Fin 2) (i : S512x1.Idx) :
    i ∈ (rows k).set ↔ 256 * k.val ≤ (i 0).val ∧ (i 0).val < 256 * k.val + 256 := by
  have h1 : (i 1).val < 1 := (i 1).isLt
  rw [Rect.mem_set_unit]
  constructor
  · intro h; have := h 0; fin_cases k <;> simpa [corner] using this
  · rintro ⟨h, h'⟩ a
    fin_cases k <;> fin_cases a <;> simp [corner] at * <;> omega

/-- The two halves share no cell. -/
theorem rows_disjoint : Disjoint (rows 0).set (rows 1).set := by
  rw [Finset.disjoint_left]
  intro i h h'
  rw [mem_rows] at h h'
  have e : ((1 : Fin 2).val) = 1 := rfl
  have e' : ((0 : Fin 2).val) = 0 := rfl
  omega

/-- Every cell of the column lies in one of the halves. -/
theorem rows_cover : (rows 0).set ∪ (rows 1).set = Finset.univ := by
  ext i
  have h0 := (i 0).isLt
  change (i 0).val < 512 at h0
  refine iff_of_true (Finset.mem_union.mpr ?_) (Finset.mem_univ i)
  rw [mem_rows, mem_rows]
  change (256 * 0 ≤ (i 0).val ∧ (i 0).val < 256 * 0 + 256) ∨ (256 * 1 ≤ (i 0).val ∧ (i 0).val < 256 * 1 + 256)
  omega

/-! ## A column as a pair of halves -/

variable {α : Type}

/-- The half that a cell of the column lies in. -/
def halfOf (i : S512x1.Idx) : Fin 2 := ⟨(i 0).val / 256, Nat.div_lt_of_lt_mul (i 0).isLt⟩

/-- The place of a cell within its half. -/
def within (i : S512x1.Idx) : S256x1.Idx :=
  Shape.pair (d := ![256, 1]) ⟨(i 0).val % 256, Nat.mod_lt _ (by decide)⟩ ⟨(i 1).val, (i 1).isLt⟩

/-- The column whose half `k` is `u k`. -/
def stack (u : Fin 2 → S256x1.Idx → α) : S512x1.Idx → α := fun i => u (halfOf i) (within i)

/-- Half `k` of a stacked column is the half that was stacked there. -/
theorem stack_rows (u : Fin 2 → S256x1.Idx → α) (k : Fin 2) (x : S256x1.Idx) :
    stack u ((rows k).emb x) = u k x := by
  have h0 : (x 0).val < 256 := (x 0).isLt
  have e0 : ((rows k).emb x 0).val = 256 * k.val + (x 0).val := by
    rw [Rect.emb_apply]; fin_cases k <;> simp [corner]
  have e1 : ((rows k).emb x 1).val = (x 1).val := by
    rw [Rect.emb_apply]; fin_cases k <;> simp [corner]
  have hk : halfOf ((rows k).emb x) = k := Fin.ext (by
    show ((rows k).emb x 0).val / 256 = k.val
    rw [e0]; omega)
  have hx : within ((rows k).emb x) = x := funext fun b => Fin.ext (by
    match b with
    | ⟨0, _⟩ => show ((rows k).emb x 0).val % 256 = (x 0).val; rw [e0]; omega
    | ⟨1, _⟩ => exact e1)
  exact congrArg₂ u hk hx

/-- Two columns that agree on the cells of half 0 and of half 1 are the same column. -/
theorem halves_ext {f g : S512x1.Idx → α} (h : ∀ k x, f ((rows k).emb x) = g ((rows k).emb x)) : f = g := by
  funext i
  have hi : i ∈ (rows 0).set ∪ (rows 1).set := by rw [rows_cover]; exact Finset.mem_univ i
  rcases Finset.mem_union.mp hi with hi | hi <;>
  · obtain ⟨x, rfl⟩ := LoadRect.exists_idx_of_mem _ hi
    exact h _ x

end Cert.RowMean

end
-- ==== Proof.Protocol.lean ====
module
public import proofs.«01_k».proof.Proof.Halves

/-!
# What the two devices of a row hand each other

The four devices form a 2 × 2 mesh, and the kernel pairs the two devices of a mesh row.  Each
device uses five semaphores: the barrier, two send semaphores and two receive semaphores, one of
each per half of the column.  Every semaphore is raised exactly once.  This module says what a
raise of each of them hands to the device that waits, how much it counts, and what every device
owes at the launch.
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open scoped Idealize.SL.BI

variable {F : FTy → Type} [FloatOps F]

/-- The ghost state: the staging pipeline's part beside this kernel's own. -/
abbrev UU : Type := UR sig nD τ × URounds (GSem nD τ sig) Unit

local notation "𝕄" => MT nD τ sig Unit (Elt F) ℕ UU ℕ

/-- The pipeline's part of the ghost state. -/
abbrev EP : Emb (UR sig nD τ) (MT nD τ sig Unit (Elt F) ℕ UU ℕ) := embL
/-- This kernel's part of the ghost state. -/
abbrev ER : Emb (URounds (GSem nD τ sig) Unit) (MT nD τ sig Unit (Elt F) ℕ UU ℕ) := embR

variable (m : (ℓ : Loc nD τ sig) → Buf (Elt F) ℓ) (ρ : Dev nD → PrngReg)

/-- The state at the launch: memory `m`, all counters zero. -/
def s₀ : MemSt nD τ sig (Elt F) := ⟨m, fun _ => 0, ρ⟩

/-! ## The pairing -/

/-- The other device of the same mesh row. -/
def peer (c : Dev nD) : Dev nD := ![1, 0, 3, 2] c

/-- Pairing twice leads back. -/
theorem peer_peer (c : Dev nD) : peer (peer c) = c := by revert c; decide

/-- The pairing as a permutation of the devices. -/
def pairing : Dev nD ≃ Dev nD := ⟨peer, peer, peer_peer, peer_peer⟩

/-- The signal goes to the peer. -/
theorem signal_dest (c : Dev nD) : (⟨k0_dev1 c, k0_dev1_lt c⟩ : Dev nD) = peer c :=
  Fin.ext ((k0_dev1_eq c).trans (by revert c; decide))
/-- The first copy goes to the peer. -/
theorem copy0_dest (c : Dev nD) : (⟨k0_dev2 c, k0_dev2_lt c⟩ : Dev nD) = peer c :=
  Fin.ext ((k0_dev2_eq c).trans (by revert c; decide))
/-- The second copy goes to the peer. -/
theorem copy1_dest (c : Dev nD) : (⟨k0_dev3 c, k0_dev3_lt c⟩ : Dev nD) = peer c :=
  Fin.ext ((k0_dev3_eq c).trans (by revert c; decide))

/-! ## Buffers -/

/-- The staged block of the argument. -/
abbrev xM : Memref sig .tc .vmem S512x256 .f32 := Memref.whole cc0_stg0_0
/-- The staged block of the result. -/
abbrev oM : Memref sig .tc .vmem S512x1 .f32 := Memref.whole cc0_stg1_0
/-- The column of this device's row sums. -/
abbrev sM : Memref sig .tc .vmem S512x1 .f32 := Memref.whole cc0_scratch0
/-- The column that the peer's row sums land in. -/
abbrev rM : Memref sig .tc .vmem S512x1 .f32 := Memref.whole cc0_scratch1
/-- Half `k` of a column. -/
abbrev half (M : Memref sig .tc .vmem S512x1 .f32) (k : Fin 2) : Memref sig .tc .vmem S256x1 .f32 :=
  M.slice (rows k) (fun _ => rfl)

/-- Half `k` of the rows of the argument's block lies inside it. -/
theorem xcorner_fits : (k : Fin 2) → ∀ a, corner k a + S256x256.size a ≤ S512x256.size a
  | 0 => inb_S512x256_S256x256_0_0
  | 1 => inb_S512x256_S256x256_256_0
/-- Half `k` of the rows of the argument's block. -/
abbrev xrows (k : Fin 2) : Rect S512x256 := Rect.unit (s := S512x256) (corner k) S256x256.size (xcorner_fits k)

/-! ## Semaphores -/

/-- The five semaphores: the barrier, send 0 and 1, receive 0 and 1. -/
abbrev csem : Fin 5 → SemLoc sig := fun
  | 0 => .reg (SemArray.scalar (sig.barrier 0 rfl) : Sems sig S_).sem
  | 1 => .dma ((cc0_scratch2.slice (Rect.unit (s := S2) ![0] S1.size inb_S2_S1_0)).squeeze S_ squeezes_S1_S_).sem
  | 2 => .dma ((cc0_scratch2.slice (Rect.unit (s := S2) ![1] S1.size inb_S2_S1_1)).squeeze S_ squeezes_S1_S_).sem
  | 3 => .dma ((cc0_scratch3.slice (Rect.unit (s := S2) ![0] S1.size inb_S2_S1_0)).squeeze S_ squeezes_S1_S_).sem
  | 4 => .dma ((cc0_scratch3.slice (Rect.unit (s := S2) ![1] S1.size inb_S2_S1_1)).squeeze S_ squeezes_S1_S_).sem

/-- The send semaphore of half `k`, among the five. -/
abbrev sendIx : Fin 2 → Fin 5 := fun | 0 => 1 | 1 => 2
/-- The receive semaphore of half `k`, among the five. -/
abbrev recvIx : Fin 2 → Fin 5 := fun | 0 => 3 | 1 => 4

/-- Semaphore `j` of device `c`. -/
abbrev kcell (cj : Dev nD × Fin 5) : GSem nD τ sig := ((cj.1 : Thread nD τ), csem cj.2)

/-- Which of the five a semaphore is, if any. -/
def jobOf (s : SemLoc sig) : Option (Fin 5) := (List.finRange 5).find? fun j => decide (csem j = s)

/-- Each of the five is recognised. -/
theorem jobOf_csem (j : Fin 5) : jobOf (csem j) = some j := by revert j; decide

/-- Different places among the five are different semaphores. -/
theorem csem_injective : Function.Injective csem := fun i j h =>
  Option.some.inj ((jobOf_csem i).symm.trans ((congrArg jobOf h).trans (jobOf_csem j)))

/-- Different pairs of a device and a semaphore are different cells. -/
theorem kcell_injective : Function.Injective kcell := by
  rintro ⟨c, i⟩ ⟨d, j⟩ h
  have hc : c = d := congrArg (fun g : GSem nD τ sig => g.1.1) h
  have hj : i = j := csem_injective (congrArg (fun g : GSem nD τ sig => g.2) h)
  rw [hc, hj]

/-- What the copy of one half counts on its semaphores. -/
abbrev N : ℕ := (half rM 0).view.dmaCredit

/-- What the one raise of semaphore `j` counts. -/
def due : Fin 5 → ℕ := fun | 0 => 1 | 1 => N | 2 => N | 3 => N | 4 => N

/-- Every raise counts something. -/
theorem due_pos : ∀ j, 0 < due j
  | 0 => Nat.one_pos
  | 1 => View.dmaCredit_pos _ (by decide)
  | 2 => View.dmaCredit_pos _ (by decide)
  | 3 => View.dmaCredit_pos _ (by decide)
  | 4 => View.dmaCredit_pos _ (by decide)

/-! ## Values -/

/-- The block of the argument that device `c` works on. -/
def xstg (c : Dev nD) : (cc0_stg0_0 : Ref sig .tc).ty.Contents (Elt F) :=
  (win0_0.blk (0 : Fin 1)).view.read (Elt F) ((s₀ m ρ).mem ((c : Thread nD τ).loc main_arg0))

/-- The sums over each row of half `k` of the block of device `c`. -/
def sums (c : Dev nD) (k : Fin 2) : FVec F S256x1 .f32 :=
  k0_pay1 (xM.view.readAt (Elt F) (xrows k).toLoadRect (xstg m ρ c))

/-- What device `c` stores: in half `k`, its own and its peer's row sums added and scaled. -/
def outAt (c : Dev nD) : (cc0_stg1_0 : Ref sig .tc).ty.Contents (Elt F) :=
  stack fun k => k0_pay3 (sums m ρ c k) (sums m ρ (peer c) k)

/-! ## The schedule -/

/-- What the one raise of semaphore `j` of device `c` hands over.  The barrier: the peer's landing
column, whatever it holds.  Send `k`: half `k` of the own row sums back, at the share lent to the copy.
Receive `k`: half `k` of the landing column, holding the peer's row sums. -/
def handed (c : Dev nD) : Fin 5 → sProp 𝕄 := fun
  | 0 => iprop((∃ u, owns (peer c : Thread nD τ) (half rM 0) fullShare u) ∗ ∃ u, owns (peer c : Thread nD τ) (half rM 1) fullShare u)
  | 1 => owns (c : Thread nD τ) (half sM 0) fullShare.left (sums m ρ c 0)
  | 2 => owns (c : Thread nD τ) (half sM 1) fullShare.left (sums m ρ c 1)
  | 3 => owns (c : Thread nD τ) (half rM 0) fullShare (sums m ρ (peer c) 0)
  | 4 => owns (c : Thread nD τ) (half rM 1) fullShare (sums m ρ (peer c) 1)

instance handed_storable (c : Dev nD) (j : Fin 5) : BI.Storable (upEmb : UEmb _ 𝕄) (handed m ρ c j) := by
  fin_cases j <;> (dsimp only [handed]; infer_instance)

/-- The schedule: each of the five semaphores of each device is raised once. -/
def sched : Rounds.Schedule (GSem nD τ sig) Unit 𝕄 where
  duties g r := if r = 0 ∧ g.1.2 = .tc ∧ (jobOf g.2).isSome then {()} else ∅
  unitless _ := False
  amount g _ _ := (jobOf g.2).elim 1 due
  payload g _ _ := (jobOf g.2).elim iprop(emp) (handed m ρ g.1.1)
  amount_pos g _ _ _ := by
    cases jobOf g.2 with
    | none => exact Nat.one_pos
    | some j => exact due_pos j

instance sched_storable (g : GSem nD τ sig) (r : ℕ) (d : Unit) :
    BI.Storable (upEmb : UEmb _ 𝕄) ((sched m ρ).payload g r d) := by
  show BI.Storable upEmb ((jobOf g.2).elim iprop(emp) (handed m ρ g.1.1))
  cases jobOf g.2 with
  | none => show BI.Storable upEmb iprop(emp); infer_instance
  | some j => exact handed_storable m ρ g.1.1 j

section Facts
variable (c : Dev nD) (j : Fin 5)

/-- The raise of each of the five is due in round 0. -/
theorem duties_first : (sched (F := F) m ρ).duties (kcell (c, j)) 0 = {()} :=
  if_pos ⟨rfl, rfl, by rw [jobOf_csem]; rfl⟩
/-- Nothing is due after round 0. -/
theorem duties_after (g : GSem nD τ sig) : ∀ r, 1 ≤ r → (sched (F := F) m ρ).duties g r = ∅ :=
  fun r hr => if_neg fun h => by omega
/-- What the raise of each of the five counts. -/
theorem amount_first (u : Unit) : (sched (F := F) m ρ).amount (kcell (c, j)) 0 u = due j := by
  show (jobOf (csem j)).elim 1 due = _
  rw [jobOf_csem]; rfl
/-- What a wait on each of the five takes. -/
theorem expect_first : (sched (F := F) m ρ).expect (kcell (c, j)) 0 = due j := by
  unfold Schedule.expect Schedule.amountOf
  rw [duties_first, Finset.sum_singleton, amount_first]
/-- What the raise of each of the five hands over. -/
theorem payload_first (u : Unit) : (sched (F := F) m ρ).payload (kcell (c, j)) 0 u = handed m ρ c j := by
  show (jobOf (csem j)).elim iprop(emp) (handed m ρ c) = _
  rw [jobOf_csem]; rfl
/-- What a wait on each of the five receives. -/
theorem received_first : bigSep ((sched (F := F) m ρ).duties (kcell (c, j)) 0 \ ∅)
    (fun u => (sched (F := F) m ρ).payload (kcell (c, j)) 0 u) = handed m ρ c j := by
  rw [Finset.sdiff_empty, duties_first, bigSep_singleton, payload_first]

end Facts

/-! ## Debts and levels -/

/-- The device that raises semaphore `j` of device `c`: itself for a send, else its peer. -/
def raiser (j : Fin 5) (c : Dev nD) : Dev nD := if j = 1 ∨ j = 2 then c else peer c

/-- The raiser of the raiser's semaphore is the device itself. -/
theorem raiser_raiser (j : Fin 5) (c : Dev nD) : raiser j (raiser j c) = c := by
  unfold raiser; split
  · rfl
  · exact peer_peer c

/-- The debt of device `c` once it has signalled and started the first copy: the second landing. -/
def debt₁ (c : Dev nD) : CellTallies nD τ sig Unit := tallyAt (kcell (peer c, 4)) () N
/-- The debt of device `c` once it has signalled: the two landings. -/
def debt₂ (c : Dev nD) : CellTallies nD τ sig Unit := debt₁ c + tallyAt (kcell (peer c, 3)) () N
/-- The debt of device `c` at the launch: the two landings and the signal. -/
def debt₃ (c : Dev nD) : CellTallies nD τ sig Unit := debt₂ c + tallyAt (kcell (peer c, 0)) () 1

/-- What device `d` owes at the launch to semaphore `j` of device `c`, for the barrier and the receives. -/
theorem debt₃_at (d c : Dev nD) (j : Fin 5) (hj : j ≠ 1 ∧ j ≠ 2) :
    debt₃ d (kcell (c, j)) () = if d = peer c then due j else 0 := by
  have hp : ∀ i, (kcell (c, j) = kcell (peer d, i)) ↔ (d = peer c ∧ j = i) := fun i =>
    ⟨fun h => by
      have := kcell_injective h
      rw [Prod.mk.injEq] at this
      exact ⟨by rw [this.1, peer_peer], this.2⟩,
     fun h => by rw [h.1, h.2, peer_peer]⟩
  unfold debt₃ debt₂ debt₁
  simp only [Pi.add_apply, Finsupp.add_apply, tallyAt_apply, hp, and_true]
  by_cases h : d = peer c
  · simp only [h, true_and, if_true]
    fin_cases j <;> first | exact absurd rfl hj.1 | exact absurd rfl hj.2 | simp [due]
  · simp only [h, false_and, if_false]

/-- Only the barrier and the receive semaphores of the peer are owed anything at the launch. -/
theorem debt₃_pos {c : Dev nD} {g : GSem nD τ sig} {u : Unit} (h : 0 < debt₃ c g u) :
    ∃ j : Fin 5, g = kcell (peer c, j) ∧ (j = 0 ∨ j = 3 ∨ j = 4) := by
  unfold debt₃ debt₂ debt₁ at h
  simp only [Pi.add_apply, Finsupp.add_apply, tallyAt_apply] at h
  by_cases h0 : g = kcell (peer c, 0)
  · exact ⟨0, h0, by simp⟩
  by_cases h3 : g = kcell (peer c, 3)
  · exact ⟨3, h3, by simp⟩
  by_cases h4 : g = kcell (peer c, 4)
  · exact ⟨4, h4, by simp⟩
  simp [h0, h3, h4] at h

/-- After the signal only the receive semaphores of the peer are owed anything. -/
theorem debt₂_pos {c : Dev nD} {g : GSem nD τ sig} {u : Unit} (h : 0 < debt₂ c g u) :
    ∃ j : Fin 5, g = kcell (peer c, j) ∧ (j = 3 ∨ j = 4) := by
  unfold debt₂ debt₁ at h
  simp only [Pi.add_apply, Finsupp.add_apply, tallyAt_apply] at h
  by_cases h3 : g = kcell (peer c, 3)
  · exact ⟨3, h3, by simp⟩
  by_cases h4 : g = kcell (peer c, 4)
  · exact ⟨4, h4, by simp⟩
  simp [h3, h4] at h

/-- The marks that waits are ordered by: every TensorCore semaphore carries one. -/
def marks (g : GSem nD τ sig) : Finset Unit := if g.1.2 = .tc then {()} else ∅
/-- The order of waits: a barrier wait before a receive wait, all other waits first. -/
def level (g : GSem nD τ sig) (_ : Unit) : ℕ := (jobOf g.2).elim 0 fun | 0 => 1 | 1 => 0 | 2 => 0 | 3 => 2 | 4 => 2

/-- Only TensorCore semaphores carry a mark. -/
theorem marks_of_ne (g : GSem nD τ sig) (h : g.1.2 ≠ .tc) : marks g = ∅ := if_neg h
/-- A TensorCore semaphore carries the mark. -/
theorem mem_marks (c : Dev nD) (sm : SemLoc sig) (u : Unit) : u ∈ marks ((c : Thread nD τ), sm) := by
  rw [show marks ((c : Thread nD τ), sm) = {()} from if_pos rfl]; exact Finset.mem_singleton_self _

omit [FloatOps F] in
/-- A device may wait on a semaphore of level `n` while all it owes is of greater level. -/
theorem mayWait_below (c : Dev nD) (sm : SemLoc sig) (O : CellTallies nD τ sig Unit) (n : ℕ)
    (hsm : level ((c : Thread nD τ), sm) () ≤ n)
    (hO : ∀ g u, 0 < O g u → ∃ (d : Dev nD) (j : Fin 5), g = kcell (d, j) ∧ n < level (kcell (d, j)) ()) :
    (levAts marks level : sProp 𝕄) ⊢ MayWait (c : Thread nD τ) sm () O :=
  MayOwe.of_cut (L := marks) (lev := level) n
    (fun p hp => by rw [Finset.mem_singleton.mp hp]; exact mem_marks c sm ())
    (fun g u hg => by obtain ⟨d, j, rfl, -⟩ := hO g u hg; exact mem_marks d (csem j) u)
    (fun p hp => by rw [Finset.mem_singleton.mp hp]; exact hsm)
    (fun g u hg => by obtain ⟨d, j, rfl, h⟩ := hO g u hg; exact h)

/-- The level of each of the five. -/
theorem level_kcell (c : Dev nD) (j : Fin 5) : level (kcell (c, j)) () = ![1, 0, 0, 2, 2] j := by
  show (jobOf (csem j)).elim _ _ = _
  rw [jobOf_csem]; fin_cases j <;> rfl

omit [FloatOps F] in
/-- A device may wait for its staging copies while it owes what it owes at the launch. -/
theorem mayWait_stage (c : Dev nD) (sm : SemLoc sig) (hsm : jobOf sm = none) :
    (levAts marks level : sProp 𝕄) ⊢ MayWait (c : Thread nD τ) sm () (debt₃ c) :=
  mayWait_below c sm _ 0 (by show (jobOf sm).elim _ _ ≤ 0; rw [hsm]; rfl) fun g u hg => by
    obtain ⟨j, rfl, hj⟩ := debt₃_pos hg
    refine ⟨peer c, j, rfl, ?_⟩
    rw [level_kcell]; rcases hj with rfl | rfl | rfl <;> decide

omit [FloatOps F] in
/-- A device may wait at the barrier while it owes the two landings. -/
theorem mayWait_barrier (c : Dev nD) :
    (levAts marks level : sProp 𝕄) ⊢ MayWait (c : Thread nD τ) (csem 0) () (debt₂ c) :=
  mayWait_below c _ _ 1 (by show level (kcell (c, 0)) () ≤ 1; rw [level_kcell]; exact le_rfl) fun g u hg => by
    obtain ⟨j, rfl, hj⟩ := debt₂_pos hg
    refine ⟨peer c, j, rfl, ?_⟩
    rw [level_kcell]; rcases hj with rfl | rfl <;> decide

omit [FloatOps F] in
/-- A device may wait for anything once it owes nothing. -/
theorem mayWait_free (c : Dev nD) (sm : SemLoc sig) :
    (emp : sProp 𝕄) ⊢ MayWait (c : Thread nD τ) sm () 0 := by
  rw [MayWait_zero]; exact BI.Entails.refl _

end Cert.RowMean

end
-- ==== Proof.Steps.lean ====
module
public import proofs.«01_k».proof.Proof.Protocol
public import Idealize.ShloMosaic.Lib.MemrefSat

/-!
# The steps of the kernel

One lemma per kind of step of the kernel's body: waiting on one of the five semaphores, starting
the copy of one half, loading and storing one half of a column, and splitting a column into its
halves and joining it again.
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open scoped Idealize.SL.BI

variable {F : FTy → Type} [FloatOps F]

local notation "𝕄" => MT nD τ sig Unit (Elt F) ℕ UU ℕ

/-- The kernel calls no subroutine with a loop measure. -/
abbrev 𝒱₀ : Variants := Variants.none

variable (m : (ℓ : Loc nD τ sig) → Buf (Elt F) ℓ) (ρ : Dev nD → PrngReg)

/-- What every device knows of all cells: the rules of the schedule hold at each, and each has reached round 0. -/
def records (K : Dev nD × Fin 5 → ℕ) : sProp 𝕄 :=
  iprop((bigSep Finset.univ fun cj : Dev nD × Fin 5 => cellInv ER (sched m ρ) (K cj) (kcell cj))
    ∗ bigSep Finset.univ fun cj : Dev nD × Fin 5 => reached ER (kcell cj) 0)

instance records_persistent (K : Dev nD × Fin 5 → ℕ) : BI.Persistent (records m ρ K) := by
  unfold records; infer_instance

/-- The rules of the schedule at one cell. -/
theorem records_rules (K : Dev nD × Fin 5 → ℕ) (cj : Dev nD × Fin 5) :
    records m ρ K ⊢ cellInv ER (sched m ρ) (K cj) (kcell cj) := by
  unfold records; exact sep_elim_left.trans (bigSep_elim (Finset.mem_univ cj))

/-- Round 0 is reached at one cell. -/
theorem records_reached (K : Dev nD × Fin 5 → ℕ) (cj : Dev nD × Fin 5) :
    records m ρ K ⊢ reached ER (kcell cj) 0 := by
  unfold records; exact sep_elim_right.trans (bigSep_elim (Finset.mem_univ cj))

/-- A device's debt, whatever it has waited for so far. -/
def owing (c : Dev nD) (O : CellTallies nD τ sig Unit) : sProp 𝕄 := iprop(∃ W, owes (c : Thread nD τ) O W)

variable (K : Dev nD × Fin 5 → ℕ) (c : Dev nD)

/-- A wait on semaphore `j` receives what its raise hands over, and the counter is zero for good. -/
theorem wait_step (j : Fin 5) {α : Type} {Q : α → sProp 𝕄}
    {k : PUnit → Prog (TpuEff nD τ sig (Elt F) Λ₀ .tc) α} {w : TpuEff nD τ sig (Elt F) Λ₀ .tc PUnit} {n : ℕ}
    (hw : ∀ X : PUnit → sProp 𝕄, wpE (defs₀ (F := F)) 𝒱₀ (c : Thread nD τ) none Set.univ w X
      = waitSpec (c : Thread nD τ) Set.univ (csem j) n X)
    (hn : n = due j) (O : CellTallies nD τ sig Unit) :
    iprop(records m ρ K ∗ cred (tallyAt (kcell (c, j)) () (due j)) ∗ owing c O
        ∗ MayWait (c : Thread nD τ) (csem j) () O ∗ atPos ER (kcell (c, j)) 0 ∅ 0)
      ⊢ iprop(((owing c O ∗ semVal (kcell (c, j)) 0 ∗ handed m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  unfold owing
  iintro ⟨#HR, Hc, ⟨%W, HO⟩, Hm, Hat⟩ Hk
  iapply (Rounds.wp_wait_rest_token 𝒱₀ ER (sched m ρ) (c : Thread nD τ) none (κ := K (c, j)) hw (Set.mem_univ _) ()
      (O := O) (W := W) (R := 0) (m := 0) (T := ∅) ((Nat.zero_add _).trans (expect_first m ρ c j).symm)) $$ [Hc HO Hm Hat]
  · isplitr; · iapply (records_rules m ρ K (c, j)); iexact HR
    isplitl [Hc]; · iexact Hc
    isplitl [HO]; · iexact HO
    isplitl [Hm] <;> iassumption
  iintro ⟨HO, Hat, -, Hp⟩
  ihave Hp := (Entails.of_eq (received_first m ρ c j)) $$ Hp
  imod (Rounds.cell_close ER (sched m ρ) (Set.mem_univ (K (c, j))) (fun h => h) (R := 0 + 1)
    (duties_after m ρ (kcell (c, j)))) $$ [Hat] with Hz
  · isplitr; · iapply (records_rules m ρ K (c, j)); iexact HR
    iexact Hat
  iapply Hk
  isplitl [HO]; · iexists _; iexact HO
  isplitl [Hz] <;> iassumption

/-- What the raise of send semaphore `i` hands over. -/
theorem handed_send (i : Fin 2) :
    handed m ρ c (sendIx i) = owns (c : Thread nD τ) (half sM i) fullShare.left (sums m ρ c i) := by
  fin_cases i <;> rfl
/-- What the raise of receive semaphore `i` hands over. -/
theorem handed_recv (i : Fin 2) :
    handed m ρ c (recvIx i) = owns (c : Thread nD τ) (half rM i) fullShare (sums m ρ (peer c) i) := by
  fin_cases i <;> rfl

/-- A copy of half `i` of the row sums to the peer pays the landing it owes there. -/
theorem copy_step (i : Fin 2) (n : Dev nD) (hn : n = peer c) {α : Type} {Q : α → sProp 𝕄}
    {k : PUnit → Prog (TpuEff nD τ sig (Elt F) Λ₀ .tc) α}
    {hsc : (half rM i : Memref sig (Dev.tc n : Thread nD τ).2.kind .vmem S256x1 .f32).view.ref.isScScratch = false}
    {hsrc : (half sM i).view.WordExact} {hdst : (half rM i).view.WordExact}
    {hsem : DmaTarget.Typed .vmem (csem (recvIx i)) (.remote (Dev.tc n : Thread nD τ) (half rM i) (csem (sendIx i)) hsc)}
    (O O' : CellTallies nD τ sig Unit) (hO : O' = O + tallyAt (kcell (peer c, recvIx i)) () N) :
    iprop(records m ρ K ∗ owns (c : Thread nD τ) (half sM i) fullShare.left (sums m ρ c i)
        ∗ (∃ u, owns (peer c : Thread nD τ) (half rM i) fullShare u) ∗ owing c O'
        ∗ dutyTok ER (kcell (c, sendIx i)) 0 () ∗ dutyTok ER (kcell (peer c, recvIx i)) 0 ())
      ⊢ iprop(((cred (tallyAt (kcell (c, sendIx i)) () (due (sendIx i))) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half sM i) (.remote (Dev.tc n : Thread nD τ) (half rM i) (csem (sendIx i)) hsc)
                (csem (recvIx i)) hsrc hdst hsem) k) Q) := by
  subst hn
  have ds : due (sendIx i) = N := by fin_cases i <;> rfl
  have dr : due (recvIx i) = N := by fin_cases i <;> rfl
  rw [ds]
  unfold owing owns
  iintro ⟨#HR, ⟨%fs, %hfs, Hs⟩, ⟨%u, %fd, -, Hd⟩, ⟨%W, HO⟩, Hts, Htr⟩ Hk
  iapply (Rounds.wp_send_pointsTo 𝒱₀ ER (sched m ρ) (c : Thread nD τ) none (κ₁ := K (c, sendIx i)) (κ₂ := K (peer c, recvIx i))
    (r₁ := 0) (r₂ := 0) (d₁ := ()) (d₂ := ()) (fs := fs) (fd := fd) (q := fullShare.left)
    (by rw [duties_first]; exact Finset.mem_singleton_self _) (by rw [duties_first]; exact Finset.mem_singleton_self _)
    () () N (by fin_cases i <;> rfl) ((amount_first m ρ c _ ()).trans ds) ((amount_first m ρ (peer c) _ ()).trans dr) O hO (W := W)
    (by
      rw [payload_first, handed_send]; unfold owns
      iintro H; iexists fs; isplitr; · (ipureintro; exact hfs)
      iexact H)
    (by
      rw [payload_first, handed_recv, peer_peer]; unfold owns
      iintro H; iexists ((half rM i).view.write (Elt F) fd ((half sM i).view.read (Elt F) fs) Finset.univ); isplitr
      · ipureintro; exact (View.read_write_univ _ _).trans hfs
      iexact H)) $$ [Hs Hd HO Hts Htr]
  · isplitr; · iapply (records_rules m ρ K (c, sendIx i)); iexact HR
    isplitr; · iapply (records_rules m ρ K (peer c, recvIx i)); iexact HR
    isplitl [Hs]; · iexact Hs
    isplitl [Hd]; · iexact Hd
    isplitl [HO]; · iexact HO
    isplitl [Hts]; · iexact Hts
    isplitr; · iapply (records_reached m ρ K (c, sendIx i)); iexact HR
    isplitl [Htr]; · iexact Htr
    iapply (records_reached m ρ K (peer c, recvIx i)); iexact HR
  iintro ⟨Hc, HO⟩
  iapply Hk
  isplitl [Hc]; · iexact Hc
  iexists W; iexact HO

/-- A load of half `i` of a column reads that half. -/
theorem load_half (M : Memref sig .tc .vmem S512x1 .f32) (i : Fin 2) (q : PosShare TreeShare) (u : S256x1.Idx → Elt F .f32)
    {α : Type} {Q : α → sProp 𝕄} {hl : M.view.LoadsAt (rows i).toLoadRect} {kk : (S256x1.Idx → Elt F .f32) → Prog (TpuEff nD τ sig (Elt F) Λ₀ .tc) α} :
    owns (c : Thread nD τ) (half M i) q u
      ⊢ iprop((owns (c : Thread nD τ) (half M i) q u
            -∗ wp frame (wpE (defs₀ (F := F)) 𝒱₀ (c : Thread nD τ) none) Set.univ (kk u) Q)
          -∗ wp frame (wpE (defs₀ (F := F)) 𝒱₀ (c : Thread nD τ) none) Set.univ (.op (.load M (rows i).toLoadRect hl) kk) Q) := by
  unfold owns
  iintro ⟨%f, %hf, H⟩ Hk
  iapply (wp_load_rect 𝒱₀ (c : Thread nD τ) none Set.univ (m := M) (r := rows i) (S := (half M i).view.set) (q := q) (f := f) subset_rfl) $$ H
  iintro H
  rw [show (M.access (rows i)).read (Elt F) f = u from hf]
  iapply Hk
  iexists f; isplitr; · (ipureintro; exact hf)
  iexact H

/-- A store of half `i` of a column leaves the stored half. -/
theorem store_half (M : Memref sig .tc .vmem S512x1 .f32) (i : Fin 2) (w : S256x1.Idx → Elt F .f32)
    {α : Type} {Q : α → sProp 𝕄}
    {k : PUnit → Prog (TpuEff nD τ sig (Elt F) Λ₀ .tc) α} {hs} {hm} :
    (iprop(∃ u, owns (c : Thread nD τ) (half M i) fullShare u) : sProp 𝕄)
      ⊢ iprop((owns (c : Thread nD τ) (half M i) fullShare w
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store M (rows i) w Finset.univ hs hm) k) Q) := by
  unfold owns
  iintro ⟨%u, %f, -, H⟩ Hk
  iapply (wp_store 𝒱₀ (c : Thread nD τ) none Set.univ (m := M) (r := rows i) (Mk := Finset.univ) (S := (half M i).view.set)
    (f := f) (View.setOn_subset_set _ _)) $$ H
  iintro H
  iapply Hk
  iexists ((half M i).view.write (Elt F) f w Finset.univ); isplitr
  · ipureintro; exact View.read_write_univ _ _
  iexact H

omit [FloatOps F] in
/-- Half `i` of a column may be held in two shares at once, one of them to lend. -/
theorem two_shares (M : Memref sig .tc .vmem S512x1 .f32) (i : Fin 2) (u : S256x1.Idx → Elt F .f32) :
    (owns (c : Thread nD τ) (half M i) fullShare u : sProp 𝕄)
      ⊣⊢ iprop(owns (c : Thread nD τ) (half M i) fullShare.left u ∗ owns (c : Thread nD τ) (half M i) fullShare.right u) :=
  owns_halves _ _ _ u

/-- A column held whole is its two halves held apart. -/
theorem split_column (M : Memref sig .tc .vmem S512x1 .f32) (hd : Disjoint (half M 0).view.set (half M 1).view.set)
    (hu : (half M 0).view.set ∪ (half M 1).view.set = Finset.univ) :
    (iprop(∃ f : Buf (Elt F) (M.view.loc (c : Thread nD τ)), M.view.loc (c : Thread nD τ) ↦{fullShare} f) : sProp 𝕄)
      ⊢ iprop((∃ u, owns (c : Thread nD τ) (half M 0) fullShare u) ∗ ∃ u, owns (c : Thread nD τ) (half M 1) fullShare u) := by
  unfold owns
  rw [← hu]
  iintro ⟨%f, H⟩
  ihave H := (pointsTo_union hd).1 $$ H
  icases H with ⟨H0, H1⟩
  isplitl [H0]
  · iexists _; iexists f; isplitr; · (ipureintro; rfl)
    iexact H0
  · iexists _; iexists f; isplitr; · (ipureintro; rfl)
    iexact H1

/-- A column whose two halves are held is held whole. -/
theorem join_column (M : Memref sig .tc .vmem S512x1 .f32) (hd : Disjoint (half M 0).view.set (half M 1).view.set)
    (hu : (half M 0).view.set ∪ (half M 1).view.set = Finset.univ) (u v : S256x1.Idx → Elt F .f32) :
    (iprop(owns (c : Thread nD τ) (half M 0) fullShare u ∗ owns (c : Thread nD τ) (half M 1) fullShare v) : sProp 𝕄)
      ⊢ iprop(∃ f : Buf (Elt F) (M.view.loc (c : Thread nD τ)), M.view.loc (c : Thread nD τ) ↦{fullShare} f) := by
  unfold owns
  rw [← hu]
  iintro ⟨⟨%f, -, H0⟩, ⟨%g, -, H1⟩⟩
  iexists _
  iapply (pointsTo_join (f := f) (g := g) hd)
  isplitl [H0] <;> iassumption

end Cert.RowMean

end
-- ==== Proof.Body.lean ====
module
public import proofs.«01_k».proof.Proof.Steps

/-!
# One run of the kernel's body

The body is followed step by step: the signal hands the own landing column to the peer; each half
of the row sums is stored and copied; each landing is waited for, and the two row sums of a half
are added, scaled and stored.
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- What device `c` starts with of the schedule: the rules, its place at its own five semaphores, and the
right to each of the five raises that it makes. -/
def ghost (K : Dev nD × Fin 5 → ℕ) (c : Dev nD) : sProp 𝕄 :=
  iprop(records m ρ K ∗ (bigSep Finset.univ fun j : Fin 5 => atPos ER (kcell (c, j)) 0 ∅ 0)
    ∗ bigSep Finset.univ fun j : Fin 5 => dutyTok ER (kcell (raiser j c, j)) 0 ())

/-- What device `c` starts with: its part of the schedule, and the credit for what its peer owes it. -/
def start (c : Dev nD) : sProp 𝕄 :=
  iprop((∃ K, ghost m ρ K c)
    ∗ (cred (tallyAt (kcell (c, 0)) () (due 0)) ∗ cred (tallyAt (kcell (c, 3)) () (due 3)) ∗ cred (tallyAt (kcell (c, 4)) () (due 4)))
    ∗ levAts marks level)

/-- The two scratch columns, whatever they hold. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- What device `c` ends with: its five counters at zero, and its scratch columns. -/
def finish (c : Dev nD) : sProp 𝕄 :=
  iprop((bigSep Finset.univ fun j : Fin 5 => semVal (kcell (c, j)) 0) ∗ scratch c)

/-- The data of the staging pipeline: its arrays, what the body leaves in the staged blocks, what is
held before and after the one block, and what is owed then. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => iprop(start m ρ c ∗ scratch c)
    | ⟨_ + 1, _⟩ => finish c
  q _ := fullShare
  owed t := match t with
    | ⟨0, _⟩ => debt₃ c
    | ⟨_ + 1, _⟩ => 0

omit [FloatOps F] in
/-- Five things at once. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Block `b` of device `c` held whole, at contents equal to `X`. -/
abbrev block (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- To own a whole block at contents `X` is to hold it whole at `X`. -/
theorem owns_block (c : Dev nD) (b : Ref sig .tc) (X : b.ty.Contents (Elt F)) :
    (owns (Ix := Unit) (Name := ℕ) (U := UU) (Lvl := ℕ) (c : Thread nD τ) (Memref.whole b) fullShare X : sProp 𝕄)
      = block c b X := by
  unfold owns; simp only [Memref.view_whole, View.read_whole, View.set_whole]

/-! ## The stored result -/

omit [FloatOps F] in
/-- Storing one half and then the other leaves the column of the two halves. -/
theorem stored (f : (cc0_stg1_0 : Ref sig .tc).ty.Contents (Elt F)) (u : Fin 2 → S256x1.Idx → Elt F .f32) :
    (oM.access (rows 1)).write (Elt F) ((oM.access (rows 0)).write (Elt F) f (u 0) Finset.univ) (u 1) Finset.univ = stack u := by
  refine halves_ext fun i x => ?_
  rw [stack_rows]
  match i with
  | 0 =>
    have hx : (oM.access (rows 0)).emb x ∉ (oM.access (rows 1)).setOn Finset.univ := by
      show (rows 0).emb x ∉ ((View.whole cc0_stg1_0).slice (rows 1)).set
      rw [View.set_slice_whole]
      exact Finset.disjoint_left.mp rows_disjoint (LoadRect.idx_mem _ x)
    exact (View.write_of_not_mem _ _ _ hx).trans (View.write_emb_of_mem _ _ (Finset.mem_univ x))
  | 1 => exact View.write_emb_of_mem (v := oM.access (rows 1)) _ _ (Finset.mem_univ x)

/-! ## The body -/

/-- The halves of the column of row sums. -/
theorem sums_halves : Disjoint (half sM 0).view.set (half sM 1).view.set ∧ (half sM 0).view.set ∪ (half sM 1).view.set = Finset.univ := by
  constructor
  · show Disjoint ((View.whole cc0_scratch0).slice (rows 0)).set ((View.whole cc0_scratch0).slice (rows 1)).set
    rw [View.set_slice_whole, View.set_slice_whole]; exact rows_disjoint
  · show ((View.whole cc0_scratch0).slice (rows 0)).set ∪ ((View.whole cc0_scratch0).slice (rows 1)).set = Finset.univ
    rw [View.set_slice_whole, View.set_slice_whole]; exact rows_cover
/-- The halves of the landing column. -/
theorem landing_halves : Disjoint (half rM 0).view.set (half rM 1).view.set ∧ (half rM 0).view.set ∪ (half rM 1).view.set = Finset.univ := by
  constructor
  · show Disjoint ((View.whole cc0_scratch1).slice (rows 0)).set ((View.whole cc0_scratch1).slice (rows 1)).set
    rw [View.set_slice_whole, View.set_slice_whole]; exact rows_disjoint
  · show ((View.whole cc0_scratch1).slice (rows 0)).set ∪ ((View.whole cc0_scratch1).slice (rows 1)).set = Finset.univ
    rw [View.set_slice_whole, View.set_slice_whole]; exact rows_cover

/-- The one grid point. -/
def t₀ : Fin cfg0.N := ⟨0, by decide⟩
/-- There is no other grid point. -/
theorem fin_N (t : Fin cfg0.N) : t = t₀ := by
  obtain ⟨t, ht⟩ := t
  have : t < 1 := ht
  exact Fin.ext (by simp only [t₀]; omega)

/-- What the body finds, the schedule's cells named by `K`. -/
def bodyPre (K : Dev nD × Fin 5 → ℕ) (c : Dev nD) : sProp 𝕄 :=
  iprop(ghost m ρ K c
    ∗ (cred (tallyAt (kcell (c, 0)) () (due 0)) ∗ cred (tallyAt (kcell (c, 3)) () (due 3)) ∗ cred (tallyAt (kcell (c, 4)) () (due 4)))
    ∗ levAts marks level ∗ scratch c ∗ owing c (debt₃ c)
    ∗ block c cc0_stg0_0 (xstg m ρ c) ∗ (∃ X, block c cc0_stg1_0 X))

/-- What the body leaves. -/
def bodyPost (c : Dev nD) : sProp 𝕄 :=
  iprop(finish c ∗ owing c 0 ∗ block c cc0_stg0_0 (xstg m ρ c) ∗ block c cc0_stg1_0 (outAt m ρ c))

set_option maxHeartbeats 1600000 in
/-- The body runs from what it finds to what it leaves. -/
theorem sound_body (K : Dev nD × Fin 5 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3) Kt := by
  rw [cc0_body_eq_skeleton]; unfold cc0_body_skel
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre ghost scratch
  rw [bigSep_fin5, bigSep_fin5]
  iintro ⟨⟨⟨#HR, ⟨HaB, HaS0, HaS1, HaV0, HaV1⟩, ⟨HtB, HtS0, HtS1, HtV0, HtV1⟩⟩, ⟨HcB, HcV0, HcV1⟩, #Hlev, ⟨Hs, Hr⟩, Ho, ⟨%gx, %hgx, Hx⟩, ⟨%X, %go, %hgo, Hout⟩⟩, Hk⟩
  subst hgx
  simp only [signal_dest c]
  ihave Hr := (split_column c rM landing_halves.1 landing_halves.2) $$ Hr
  ihave Hs := (split_column c sM sums_halves.1 sums_halves.2) $$ Hs
  icases Hs with ⟨Hs0, Hs1⟩
  unfold owing
  icases Ho with ⟨%W, Ho⟩
  iapply (Rounds.wp_signal 𝒱₀ ER (sched m ρ) (c : Thread nD τ) none (dst := (peer c : Thread nD τ)) (κ := K (peer c, 0))
      (by rw [duties_first m ρ (peer c) 0]; exact Finset.mem_singleton_self _)
      ((amount_first m ρ (peer c) 0 ()).trans (by decide)) () (debt₂ c) rfl) $$ [Ho HtB Hr]
  · isplitr; · iapply (records_rules m ρ K (peer c, 0)); iexact HR
    isplitl [Ho]; · iexact Ho
    isplitl [HtB]; · iexact HtB
    isplitl [Hr]
    · rw [payload_first m ρ (peer c) 0]; unfold handed; rw [peer_peer]; iexact Hr
    iapply (records_reached m ρ K (peer c, 0)); iexact HR
  iintro Ho
  -- the first half's row sums
  iapply (wp_load 𝒱₀ (c : Thread nD τ) none Set.univ (m := xM) (Finset.subset_univ _)) $$ Hx; iintro Hx
  icases Hs0 with ⟨%u0, Hs0⟩
  iapply (load_half c sM 0 fullShare u0) $$ Hs0; iintro Hs0
  iapply (store_half c sM 0 (sums m ρ c 0)) $$ [Hs0]
  · iexists u0; iexact Hs0
  iintro Hs0
  -- the barrier: the peer's landing column comes with it
  iapply (wait_step m ρ K c 0 (wpE_semWait_eq 𝒱₀ (c : Thread nD τ) none Set.univ) (by decide) (debt₂ c)) $$ [HcB Ho HaB]
  · isplitr; · iexact HR
    isplitl [HcB]; · iexact HcB
    isplitl [Ho]; · unfold owing; iexists W; iexact Ho
    isplitr; · iapply (mayWait_barrier c); iexact Hlev
    iexact HaB
  iintro ⟨Ho, HzB, Hp⟩
  unfold handed
  icases Hp with ⟨Hp0, Hp1⟩
  -- the first copy
  ihave Hs0 := (two_shares c sM 0 (sums m ρ c 0)).1 $$ Hs0
  icases Hs0 with ⟨Hs0, Hk0⟩
  iapply (copy_step m ρ K c 0 _ (copy0_dest c) (debt₁ c) (debt₂ c) rfl) $$ [Hs0 Hp0 Ho HtS0 HtV0]
  · isplitr; · iexact HR
    isplitl [Hs0]; · iexact Hs0
    isplitl [Hp0]; · iexact Hp0
    isplitl [Ho]; · iexact Ho
    isplitl [HtS0]; · iexact HtS0
    iexact HtV0
  iintro ⟨HcS0, Ho⟩
  -- the second half's row sums and their copy
  iapply (wp_load 𝒱₀ (c : Thread nD τ) none Set.univ (m := xM) (Finset.subset_univ _)) $$ Hx; iintro Hx
  icases Hs1 with ⟨%u1, Hs1⟩
  iapply (load_half c sM 1 fullShare u1) $$ Hs1; iintro Hs1
  iapply (store_half c sM 1 (sums m ρ c 1)) $$ [Hs1]
  · iexists u1; iexact Hs1
  iintro Hs1
  ihave Hs1 := (two_shares c sM 1 (sums m ρ c 1)).1 $$ Hs1
  icases Hs1 with ⟨Hs1, Hk1⟩
  iapply (copy_step m ρ K c 1 _ (copy1_dest c) 0 (debt₁ c) (zero_add _).symm) $$ [Hs1 Hp1 Ho HtS1 HtV1]
  · isplitr; · iexact HR
    isplitl [Hs1]; · iexact Hs1
    isplitl [Hp1]; · iexact Hp1
    isplitl [Ho]; · iexact Ho
    isplitl [HtS1]; · iexact HtS1
    iexact HtV1
  iintro ⟨HcS1, Ho⟩
  -- the first landing
  iapply (wait_step m ρ K c 3 (wpE_waitDma2_eq 𝒱₀ (c : Thread nD τ) none Set.univ) (by rfl) 0) $$ [HcV0 Ho HaV0]
  · isplitr; · iexact HR
    isplitl [HcV0]; · iexact HcV0
    isplitl [Ho]; · iexact Ho
    isplitr; · iapply (mayWait_free c (csem 3)); iempintro
    iexact HaV0
  iintro ⟨Ho, HzV0, Hl0⟩
  unfold handed
  iapply (load_half c sM 0 fullShare.right (sums m ρ c 0)) $$ Hk0; iintro Hk0
  iapply (load_half c rM 0 fullShare (sums m ρ (peer c) 0)) $$ Hl0; iintro Hl0
  iapply (wp_load 𝒱₀ (c : Thread nD τ) none Set.univ (m := oM) (Finset.subset_univ _)) $$ Hout; iintro Hout
  iapply (wp_store 𝒱₀ (c : Thread nD τ) none Set.univ (m := oM) (r := rows 0) (Mk := Finset.univ) (Finset.subset_univ _)) $$ Hout; iintro Hout
  -- the second landing
  iapply (wait_step m ρ K c 4 (wpE_waitDma2_eq 𝒱₀ (c : Thread nD τ) none Set.univ) (by rfl) 0) $$ [HcV1 Ho HaV1]
  · isplitr; · iexact HR
    isplitl [HcV1]; · iexact HcV1
    isplitl [Ho]; · iexact Ho
    isplitr; · iapply (mayWait_free c (csem 4)); iempintro
    iexact HaV1
  iintro ⟨Ho, HzV1, Hl1⟩
  unfold handed
  iapply (load_half c sM 1 fullShare.right (sums m ρ c 1)) $$ Hk1; iintro Hk1
  iapply (load_half c rM 1 fullShare (sums m ρ (peer c) 1)) $$ Hl1; iintro Hl1
  iapply (wp_load 𝒱₀ (c : Thread nD τ) none Set.univ (m := oM) (Finset.subset_univ _)) $$ Hout; iintro Hout
  iapply (wp_store 𝒱₀ (c : Thread nD τ) none Set.univ (m := oM) (r := rows 1) (Mk := Finset.univ) (Finset.subset_univ _)) $$ Hout; iintro Hout
  -- the two sends are over
  iapply (wait_step m ρ K c 1 (wpE_waitDma2_eq 𝒱₀ (c : Thread nD τ) none Set.univ) (by rfl) 0) $$ [HcS0 Ho HaS0]
  · isplitr; · iexact HR
    isplitl [HcS0]; · iexact HcS0
    isplitl [Ho]; · iexact Ho
    isplitr; · iapply (mayWait_free c (csem 1)); iempintro
    iexact HaS0
  iintro ⟨Ho, HzS0, Hs0⟩
  unfold handed
  iapply (wait_step m ρ K c 2 (wpE_waitDma2_eq 𝒱₀ (c : Thread nD τ) none Set.univ) (by rfl) 0) $$ [HcS1 Ho HaS1]
  · isplitr; · iexact HR
    isplitl [HcS1]; · iexact HcS1
    isplitl [Ho]; · iexact Ho
    isplitr; · iapply (mayWait_free c (csem 2)); iempintro
    iexact HaS1
  iintro ⟨Ho, HzS1, Hs1⟩
  unfold handed
  rw [wp_ret]; imodintro
  iapply Hk
  unfold bodyPost finish scratch
  rw [bigSep_fin5]
  isplitl [HzB HzS0 HzS1 HzV0 HzV1 Hs0 Hk0 Hs1 Hk1 Hl0 Hl1]
  · isplitl [HzB HzS0 HzS1 HzV0 HzV1]
    · isplitl [HzB]; · iexact HzB
      isplitl [HzS0]; · iexact HzS0
      isplitl [HzS1]; · iexact HzS1
      isplitl [HzV0] <;> iassumption
    isplitl [Hs0 Hk0 Hs1 Hk1]
    · iapply (join_column c sM sums_halves.1 sums_halves.2 (sums m ρ c 0) (sums m ρ c 1))
      isplitl [Hs0 Hk0]
      · iapply (two_shares c sM 0 (sums m ρ c 0)).2
        isplitl [Hs0] <;> iassumption
      · iapply (two_shares c sM 1 (sums m ρ c 1)).2
        isplitl [Hs1] <;> iassumption
    · iapply (join_column c rM landing_halves.1 landing_halves.2 (sums m ρ (peer c) 0) (sums m ρ (peer c) 1))
      isplitl [Hl0] <;> iassumption
  isplitl [Ho]; · iexact Ho
  isplitl [Hx]
  · iexists _; isplitr; · (ipureintro; rfl)
    iexact Hx
  iexists _; isplitr
  · ipureintro
    exact stored go fun i => k0_pay3 (sums m ρ c i) (sums m ρ (peer c) i)
  iexact Hout

end Cert.RowMean

end
-- ==== Proof.Deal.lean ====
module
public import proofs.«01_k».proof.Proof.Body

/-!
# Dealing the schedule out at the launch

At the launch every counter is zero and every cell of the schedule is at its first round.  This
module opens the schedule's rules at all twenty cells at once, and deals to every device its place
at its own five semaphores, the right to each raise that it makes, and the credit for what its peer
owes it.
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-! ## The cells and their rights -/

/-- The twenty cells: five semaphores of each of the four devices. -/
def allCells : Finset (GSem nD τ sig) := Finset.univ.map ⟨kcell, kcell_injective⟩

/-- The right to the one raise of each cell. -/
def allToks : Finset (GSem nD τ sig × ℕ × Unit) :=
  Finset.univ.map ⟨fun cj : Dev nD × Fin 5 => (kcell cj, 0, ()), fun _ _ h => kcell_injective (congrArg Prod.fst h)⟩

/-- The ghost state at the launch. -/
def u₀ : UU := (initOf (Pipeline.cells cfgs cellOf_inj) (Pipeline.launchToks cfgs cellOf_inj), initOf allCells allToks)

/-- What the launch deals for the cells of device `c`. -/
def minted (c : Dev nD) : sProp 𝕄 :=
  bigSep Finset.univ fun j : Fin 5 => iprop(roundState ER (sched m ρ) (kcell (c, j)) 0
    ∗ reached ER (kcell (c, j)) 0 ∗ atPos ER (kcell (c, j)) 0 ∅ 0 ∗ dutyTok ER (kcell (c, j)) 0 ())

omit [FloatOps F] in
/-- Something for every cell is something for every semaphore of every device. -/
theorem over_cells (Φ : GSem nD τ sig → sProp 𝕄) :
    bigSep allCells Φ = bigSep Finset.univ fun c : Dev nD => bigSep Finset.univ fun j : Fin 5 => Φ (kcell (c, j)) := by
  unfold allCells; rw [bigSep_map, bigSep_univ_prod]; rfl

omit [FloatOps F] in
/-- The rights to all raises are one for every semaphore of every device. -/
theorem over_toks : (bigSep allToks fun x => (dutyTok ER x.1 x.2.1 x.2.2 : sProp 𝕄))
    = bigSep Finset.univ fun c : Dev nD => bigSep Finset.univ fun j : Fin 5 => dutyTok ER (kcell (c, j)) 0 () := by
  unfold allToks; rw [bigSep_map, bigSep_univ_prod]; rfl

/-- The ghost state at the launch gives every device what is minted for its cells. -/
theorem mint : BI.own (ER (initOf allCells allToks)) ⊢ (|==> bigSep Finset.univ (minted m ρ) : sProp 𝕄) := by
  iintro H
  imod (Rounds.fund ER (sched m ρ) allCells allToks) $$ H with ⟨Hst, Hr, Hat, Htok⟩
  imodintro
  ihave Hst := (Entails.of_eq (over_cells fun g => roundState ER (sched m ρ) g 0)) $$ Hst
  ihave Hr := (Entails.of_eq (over_cells fun g => reached ER g 0)) $$ Hr
  ihave Hat := (Entails.of_eq (over_cells fun g => atPos ER g 0 ∅ 0)) $$ Hat
  ihave Htok := (Entails.of_eq over_toks) $$ Htok
  unfold minted; simp only [bigSep_sep']
  isplitl [Hst]; · iexact Hst
  isplitl [Hr]; · iexact Hr
  isplitl [Hat] <;> iassumption

/-! ## The counters -/

/-- The four send and receive semaphores, which the kernel allocates itself. -/
abbrev osem : Fin 4 → SemLoc sig := fun | 0 => csem 1 | 1 => csem 2 | 2 => csem 3 | 3 => csem 4

omit [FloatOps F] in
/-- The kernel's own counters at zero, one by one. -/
theorem ownSems_eq (c : Dev nD) :
    (Pipeline.ownSems0 (Ix := Unit) (Name := ℕ) (U := UU) (Lvl := ℕ) (Val := Elt F) (τ := τ) osem c : sProp 𝕄)
      = iprop(semVal (kcell (c, 1)) 0 ∗ semVal (kcell (c, 2)) 0 ∗ semVal (kcell (c, 3)) 0 ∗ semVal (kcell (c, 4)) 0) := by
  rw [Pipeline.ownSems0_eq_of_list c osem [0, 1, 2, 3] (by decide) (by decide)]; rfl

omit [FloatOps F] in
/-- The barrier is the one counter that the kernel does not allocate. -/
theorem barrier_eq (c : Dev nD) : (unscopedSems0 c : sProp 𝕄) = semVal (kcell (c, 0)) 0 := by
  unfold unscopedSems0; rw [bigSep_eq_bigSepL_of_eq [csem 0] (by decide) (by decide)]; rfl

omit [FloatOps F] in
/-- All five counters of a device at zero. -/
theorem counters_eq (c : Dev nD) :
    iprop(Pipeline.ownSems0 (Ix := Unit) (Name := ℕ) (U := UU) (Lvl := ℕ) (Val := Elt F) (τ := τ) osem c ∗ unscopedSems0 c)
      ⊣⊢ (bigSep Finset.univ fun j : Fin 5 => semVal (kcell (c, j)) 0 : sProp 𝕄) := by
  rw [ownSems_eq, barrier_eq, bigSep_fin5]
  constructor
  · iintro ⟨H, HB⟩
    isplitl [HB] <;> iassumption
  · iintro ⟨HB, H⟩
    isplitl [H] <;> iassumption

/-! ## Opening the rules and dealing -/

/-- The map from a device and a semaphore to the device that raises it and that semaphore. -/
def dealing : Dev nD × Fin 5 ≃ Dev nD × Fin 5 where
  toFun cj := (raiser cj.2 cj.1, cj.2)
  invFun cj := (raiser cj.2 cj.1, cj.2)
  left_inv cj := by show (raiser cj.2 (raiser cj.2 cj.1), cj.2) = cj; rw [raiser_raiser]
  right_inv cj := by show (raiser cj.2 (raiser cj.2 cj.1), cj.2) = cj; rw [raiser_raiser]

omit [FloatOps F] in
/-- The rights, dealt to the devices that make the raises. -/
theorem deal_toks : (bigSep Finset.univ fun cj : Dev nD × Fin 5 => (dutyTok ER (kcell cj) 0 () : sProp 𝕄))
    = bigSep Finset.univ fun c : Dev nD => bigSep Finset.univ fun j : Fin 5 => dutyTok ER (kcell (raiser j c, j)) 0 () := by
  rw [bigSep_univ_equiv dealing, bigSep_univ_prod]; rfl

/-- With a counter at zero and a cell at its first round the rules hold there from now on. -/
theorem open_rules :
    (bigSep Finset.univ fun cj : Dev nD × Fin 5 => iprop(semVal (kcell cj) 0 ∗ roundState ER (sched m ρ) (kcell cj) 0) : sProp 𝕄)
      ⊢ |={Set.univ}=> bigSep Finset.univ fun cj : Dev nD × Fin 5 => iprop(∃ κ : ℕ, cellInv ER (sched m ρ) κ (kcell cj)) :=
  (bigSep_mono fun cj _ => (Rounds.body_intro ER (sched m ρ) (kcell cj)).trans inv_alloc).trans (bigSep_fupd _ _)

/-- The rules at every cell go to every device, beside what it holds alone. -/
theorem share_records (K : Dev nD × Fin 5 → ℕ) :
    iprop(records m ρ K ∗ bigSep Finset.univ fun c : Dev nD =>
        iprop((bigSep Finset.univ fun j : Fin 5 => atPos ER (kcell (c, j)) 0 ∅ 0)
          ∗ bigSep Finset.univ fun j : Fin 5 => dutyTok ER (kcell (raiser j c, j)) 0 ()))
      ⊢ (bigSep Finset.univ fun c : Dev nD => iprop(∃ K, ghost m ρ K c) : sProp 𝕄) := by
  refine (sep_mono_left (BI.bigSep_of_persistent (Finset.univ : Finset (Dev nD)) (records m ρ K))).trans ?_
  rw [← bigSep_sep']
  refine bigSep_mono fun c _ => ?_
  unfold ghost
  show (_ : sProp 𝕄) ⊢ _
  iintro H
  iexists K; iexact H

/-- From all counters at zero and what is minted, every device gets its part of the schedule. -/
theorem deal :
    (bigSep Finset.univ fun c => iprop(Pipeline.ownSems0 (Ix := Unit) (Name := ℕ) (U := UU) (Lvl := ℕ) (Val := Elt F) (τ := τ) osem c
        ∗ unscopedSems0 c ∗ minted m ρ c) : sProp 𝕄)
      ⊢ |={Set.univ}=> bigSep Finset.univ fun c : Dev nD => iprop(∃ K, ghost m ρ K c) := by
  have gather : (bigSep Finset.univ fun c => iprop(Pipeline.ownSems0 (Ix := Unit) (Name := ℕ) (U := UU) (Lvl := ℕ) (Val := Elt F) (τ := τ) osem c
        ∗ unscopedSems0 c ∗ minted m ρ c) : sProp 𝕄)
      ⊢ iprop((bigSep Finset.univ fun cj : Dev nD × Fin 5 => iprop(semVal (kcell cj) 0 ∗ roundState ER (sched m ρ) (kcell cj) 0))
          ∗ (bigSep Finset.univ fun cj : Dev nD × Fin 5 => reached ER (kcell cj) 0)
          ∗ (bigSep Finset.univ fun c : Dev nD => bigSep Finset.univ fun j : Fin 5 => atPos ER (kcell (c, j)) 0 ∅ 0)
          ∗ bigSep Finset.univ fun cj : Dev nD × Fin 5 => dutyTok ER (kcell cj) 0 ()) := by
    rw [bigSep_univ_prod, bigSep_univ_prod (fun cj : Dev nD × Fin 5 => (reached ER (kcell cj) 0 : sProp 𝕄)),
      bigSep_univ_prod (fun cj : Dev nD × Fin 5 => (dutyTok ER (kcell cj) 0 () : sProp 𝕄)), ← bigSep_sep', ← bigSep_sep', ← bigSep_sep']
    refine bigSep_mono fun c _ => ?_
    unfold minted
    simp only [bigSep_sep']
    show (_ : sProp 𝕄) ⊢ _
    iintro ⟨Hos, Hus, Hst, Hr, Hat, Htok⟩
    ihave Hv := (counters_eq (F := F) c).1 $$ [Hos Hus]
    · isplitl [Hos] <;> iassumption
    isplitl [Hv Hst]; · isplitl [Hv] <;> iassumption
    isplitl [Hr]; · iexact Hr
    isplitl [Hat] <;> iassumption
  refine gather.trans ?_
  iintro ⟨Hc, #Hr, Hat, Htok⟩
  imod (open_rules m ρ) $$ Hc with HI
  imodintro
  ihave HK := (BI.bigSep_exists_pi Finset.univ (fun (cj : Dev nD × Fin 5) (κ : ℕ) => (cellInv ER (sched m ρ) κ (kcell cj) : sProp 𝕄))) $$ HI
  icases HK with ⟨%K, #HI⟩
  ihave Htok := (Entails.of_eq (deal_toks (F := F))) $$ Htok
  iapply (share_records m ρ K)
  isplitr
  · unfold records; isplitr; · iexact HI
    iexact Hr
  rw [bigSep_sep']
  isplitl [Hat] <;> iassumption

/-! ## The credit -/

/-- The launch credits a device's barrier and receive semaphores with what its peer owes them. -/
theorem credit_at (c : Dev nD) (j : Fin 5) (hj : j ≠ 1 ∧ j ≠ 2) :
    tallyOn (kcell (c, j)) (launchCredit (Pipeline.owing debt₃) 0 (kcell (c, j))) = (tallyAt (kcell (c, j)) () (due j) : CellTallies nD τ sig Unit) := by
  unfold tallyAt; refine congrArg _ (Finsupp.ext fun u => ?_); cases u
  rw [Pipeline.launchCredit_owing, Finsupp.single_eq_same, Finset.sum_congr rfl fun d _ => debt₃_at d c j hj,
    Finset.sum_ite_eq' Finset.univ (peer c) fun _ => due j, if_pos (Finset.mem_univ _)]

omit [FloatOps F] in
/-- A device's credit at the launch: for its barrier and its two landings. -/
theorem credits (c : Dev nD) : (Pipeline.launchCred debt₃ c : sProp 𝕄)
    ⊢ iprop(cred (tallyAt (kcell (c, 0)) () (due 0)) ∗ cred (tallyAt (kcell (c, 3)) () (due 3)) ∗ cred (tallyAt (kcell (c, 4)) () (due 4))) := by
  rw [← credit_at c 0 (by decide), ← credit_at c 3 (by decide), ← credit_at c 4 (by decide)]
  unfold Pipeline.launchCred
  refine (bigSep_subset (Finset.subset_univ [csem 0, csem 3, csem 4].toFinset)).trans ?_
  rw [bigSep_eq_bigSepL_of_eq [csem 0, csem 3, csem 4] rfl (by decide)]
  exact BI.Entails.refl _

end Cert.RowMean

end
-- ==== Proof.Launch.lean ====
module
public import proofs.«01_k».proof.Proof.Deal
public import Idealize.ShloMosaic.Lib.Pipeline.CollectiveSegs
public import Idealize.ShloMosaic.Lib.Pipeline.Value

/-!
# The run of the whole program

The body's run, put into the staging pipeline and launched on all four devices: every fair execution
ends, leaves the argument as it was, leaves every counter at zero, and leaves in every device's
result the column that `outAt` describes.
-/

@[expose] public section

noncomputable section

namespace Cert.RowMean

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-! ## The body in the pipeline -/

/-- What the pipeline hands the body. -/
def handedIn (c : Dev nD) : sProp 𝕄 :=
  iprop((start m ρ c ∗ scratch c) ∗ (dats m ρ 0 c).owesAt () t₀.castSucc
    ∗ (∃ d, block c cc0_stg0_0 ((dats m ρ 0 c).before (0 : Fin 2) t₀ d))
    ∗ (∃ d, block c cc0_stg1_0 ((dats m ρ 0 c).before (1 : Fin 2) t₀ d)))

/-- What the pipeline takes back from the body. -/
def handedBack (c : Dev nD) : sProp 𝕄 :=
  iprop(finish c ∗ (dats m ρ 0 c).owesAt () t₀.succ
    ∗ block c cc0_stg0_0 (xstg m ρ c) ∗ block c cc0_stg1_0 (outAt m ρ c))

/-- The block of the argument is fetched before the body. -/
theorem fetched (c : Dev nD) (d) : (dats m ρ 0 c).before (0 : Fin 2) t₀ d = xstg m ρ c := by
  unfold Dat.before; rw [if_pos (by rfl)]; rfl

/-- The debt that the pipeline tracks, forgetting which waits were made. -/
theorem owes_owing (c : Dev nD) (t : Fin (cfg0.N + 1)) :
    (dats m ρ 0 c).owesAt () t ⊢ owing c ((dats m ρ 0 c).owed t) := by
  unfold Dat.owesAt Pipeline.owesWithin owing
  iintro ⟨%W, -, H⟩
  iexists W; iexact H

/-- Any waits made in the body are allowed to the pipeline. -/
theorem owing_owes (c : Dev nD) (t : Fin (cfg0.N + 1)) :
    owing c ((dats m ρ 0 c).owed t) ⊢ (dats m ρ 0 c).owesAt () t := by
  unfold Dat.owesAt Pipeline.owesWithin owing
  iintro ⟨%W, H⟩
  iexists W
  isplitr; · ipureintro; exact fun _ _ => Or.inl trivial
  iexact H

set_option maxRecDepth 4000 in
/-- The body does at the one grid point what the pipeline asks of it. -/
theorem body_obligation (c : Dev nD) : BodyObligation (dats (F := F) m ρ 0 c) (defs₀ (F := F)) 𝒱₀ () Set.univ := fun t => by
  rw [fin_N t]
  rw [bigSep_W0, bigSep_W0]
  simp only [owns_block]
  show handedIn m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3) (fun _ => handedBack m ρ c)
  unfold handedIn start
  iintro ⟨⟨⟨⟨%K, Hg⟩, Hcr, Hlev⟩, Hscr⟩, Ho, ⟨%d, Hx⟩, ⟨%d', Hout⟩⟩
  iapply (sound_body m ρ K c fun _ => handedBack m ρ c)
  unfold bodyPre
  rw [fetched]
  isplitr []
  · isplitl [Hg]; · iexact Hg
    isplitl [Hcr]; · iexact Hcr
    isplitl [Hlev]; · iexact Hlev
    isplitl [Hscr]; · iexact Hscr
    isplitl [Ho]; · iapply (owes_owing m ρ c t₀.castSucc); iexact Ho
    isplitl [Hx]; · iexact Hx
    iexists _; iexact Hout
  · unfold bodyPost handedBack
    iintro ⟨Hf, Ho, Hb⟩
    isplitl [Hf]; · iexact Hf
    isplitl [Ho]; · iapply (owing_owes m ρ c t₀.succ); iexact Ho
    iexact Hb

/-! ## The launch's side conditions -/

/-- The kernel's own semaphores are its own and none of the pipeline's. -/
theorem ownSemFacts : Pipeline.OwnSemFacts cfg0.spec osem := by decide

/-- The staged blocks are held whole. -/
theorem share_eq (c : Dev nD) (w : Fin cfg0.W) : (dats m ρ 0 c).share w = fullShare := by
  unfold Dat.share; split <;> rfl

/-- A device starts with its part of the schedule and its credit. -/
theorem start_intro (c : Dev nD) :
    iprop(Pipeline.unscopedRestP Pipeline.Prefetch.none cfg0.spec c (fun b => m ((c : Thread nD τ).loc b)) ∗ levAts marks level
        ∗ Pipeline.launchCred debt₃ c ∗ prngReg c (ρ c) ∗ ∃ K, ghost m ρ K c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

/-- Before the one block the body's holdings are at hand. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs] <;> iassumption

/-- After the one block the counters are back at zero and the scratch columns are back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq]
  unfold finish scratch
  iintro ⟨Hz, Hr⟩
  ihave Hz := (counters_eq (F := F) c).2 $$ Hz
  icases Hz with ⟨Hos, Hus⟩
  isplitl [Hus]; · iexact Hus
  isplitl [Hos] <;> iassumption

/-- The pipeline may wait for its own copies at any time. -/
theorem waits (c : Dev nD) : (levAts marks level : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show (levAts marks level : sProp 𝕄) ⊢ MayWait (c : Thread nD τ) _ () 0
      rw [MayWait_zero]; iintro -; iempintro

/-! ## The run -/

/-- The array of window `w` of device `c` after the run. -/
def finalA (c : Dev nD) (w : Fin cfg0.W) : Buf (Elt F) ((cfg0.win w).arr.view.loc (c : Thread nD τ)) :=
  (dats m ρ 0 c).arrAt w cfg0.N

/-- What the arrays hold after the run. -/
def arraysAfter : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the program from any memory with all counters at zero ends, with the arrays
as described and all counters at zero. -/
theorem run_main : θ_run defs (onTc (τ := τ) (main (F := F))) (s₀ m ρ) (fun r => arraysAfter m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := debt₃) (howed₀ := fun _ => rfl) (howedN := fun _ => rfl)
    (L := marks) (lv := level) (hL := marks_of_ne) (hwaits := waits m ρ)
    (G := minted m ρ) (G' := fun c => iprop(∃ K, ghost m ρ K c)) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem argument_kept (c : Dev nD) : finalA m ρ c (0 : Fin 2) = m ((c : Thread nD τ).loc main_arg0) :=
  (dats (F := F) m ρ 0 c).arrAt_in (0 : Fin 2) rfl _

/-- The staged block of the argument is the argument. -/
theorem xstg_eq (c : Dev nD) : xstg m ρ c = m ((c : Thread nD τ).loc main_arg0) :=
  Memref.read_access_unit_zero (Elt F) main_arg0
    (off := fun a => win0_0.index t₀ a * main_arg0.ty.shape.size a)
    (funext fun a => by fin_cases a <;> decide) (fun a => by fin_cases a <;> decide) _

/-- The result is the stored column. -/
theorem result_stored (c : Dev nD) : finalA m ρ c (1 : Fin 2) = outAt m ρ c := by
  have hz : (fun a => win0_1.index t₀ a * main_v1.ty.shape.size a) = fun _ => 0 :=
    funext fun a => by fin_cases a <;> decide
  refine (Memref.read_access_unit_zero (Elt F) main_v1 hz (fun a => by fin_cases a <;> decide) _).symm.trans ?_
  unfold finalA
  rw [show cfg0.N = (t₀ : Fin cfg0.N).val + 1 from rfl, (dats m ρ 0 c).arrAt_succ (1 : Fin 2) t₀,
    if_pos (flush0_1 t₀)]
  exact View.read_write_univ _ _

/-- From any memory with all counters at zero, every fair execution ends with the argument kept, every
result the stored column, and all counters at zero. -/
theorem run_column : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0))
    ∧ r.2.sem = fun _ => 0) :=
  (θ_run defs _ _).mono (fun _ h =>
    ⟨fun c => ⟨(h.1 c (1 : Fin 2)).trans (result_stored m ρ c), (h.1 c (0 : Fin 2)).trans (argument_kept m ρ c)⟩, h.2⟩)
    (run_main m ρ)

end Cert.RowMean

end
-- ==== Proof.Column.lean ====
module
public import proofs.«01_k».proof.Proof.Launch
public import Idealize.ShloMosaic.Lib.Pointwise

/-!
# What a device's result holds

Over the extended reals: row `i` of the column that a device stores is the sum of row `i` of its own
block, plus the sum of row `i` of its peer's block, times one part in 512.
-/

@[expose] public section

noncomputable section

namespace Cert.RowMean

open Cert.KernelIdeal Cert.KernelIdeal.Gen
open Idealize.ShloMosaic Idealize.ShloMosaic.TcCoe

/-- The constant the kernel multiplies by is one part in 512. -/
theorem scale_value : Ideal.ofBits .f32 0x3B000000#32 = ((1 / 512 : ℝ) : EReal) := by
  simp [Ideal.ofBits, Ideal.ieee, -EReal.coe_mul]; norm_num

/-- A half's sums: in each row, the sum over the row of the half's block. -/
theorem half_sum (v : Vec Ideal S256x256 .f32) (j : S256x1.Idx) :
    k0_pay1 v j = ∑ l : Fin 256, v (ix2 (j 0) l) := by
  pointwise [k0_pay1]

/-- What is stored from two sums: one part in 512 of the two together. -/
theorem scaled (a b : Vec Ideal S256x1 .f32) (j : S256x1.Idx) :
    k0_pay3 a b j = (a j + b j) * ((1 / 512 : ℝ) : EReal) := by
  pointwise [k0_pay3]
  rw [scale_value]

/-- The sum of row `i` of a block. -/
def lineSum (X : S512x256.Idx → EReal) (i : Fin 512) : EReal := ∑ l : Fin 256, X (ix2 i l)

/-- Row `r` of half `k` of a block is row `256 k + r` of the block. -/
theorem half_block (X : (cc0_stg0_0 : Ref sig .tc).ty.Contents (Elt Ideal)) (i : S512x1.Idx) (l : Fin 256) :
    xM.view.readAt (Elt Ideal) (xrows (halfOf i)).toLoadRect X (ix2 (within i 0) l)
      = X (ix2 (n0 := 512) (n1 := 256) (i 0) l) := by
  have e : ∀ k : Fin 2, corner k 0 = 256 * k.val ∧ corner k 1 = 0 := fun k => by
    fin_cases k <;> exact ⟨rfl, rfl⟩
  refine congrArg X (funext fun b => Fin.ext ?_)
  match b with
  | ⟨0, _⟩ =>
    show corner (halfOf i) 0 + 1 * ((i 0).val % 256) = (i 0).val
    rw [(e _).1]
    show 256 * ((i 0).val / 256) + 1 * ((i 0).val % 256) = (i 0).val
    omega
  | ⟨1, _⟩ =>
    show corner (halfOf i) 1 + 1 * l.val = l.val
    rw [(e _).2]; omega

variable (m : (ℓ : Loc nD τ sig) → Buf (Elt Ideal) ℓ) (ρ : Dev nD → PrngReg)

/-- The argument's block on device `c`. -/
def argAt (c : Dev nD) : S512x256.Idx → EReal := m ((c : Thread nD τ).loc main_arg0)

/-- The sums that a device computes, in the row of the block that they stand for. -/
theorem sums_at (c : Dev nD) (i : S512x1.Idx) :
    sums m ρ c (halfOf i) (within i) = lineSum (argAt m c) (i 0) := by
  unfold sums lineSum
  rw [half_sum]
  refine Finset.sum_congr rfl fun l _ => ?_
  rw [half_block, xstg_eq]
  rfl

/-- A device's result at a row: one part in 512 of its own row sum and its peer's. -/
theorem outAt_at (c : Dev nD) (i : S512x1.Idx) :
    outAt m ρ c i
      = (lineSum (argAt m c) (i 0) + lineSum (argAt m (peer c)) (i 0)) * ((1 / 512 : ℝ) : EReal) := by
  show k0_pay3 (sums m ρ c (halfOf i)) (sums m ρ (peer c) (halfOf i)) (within i) = _
  rw [scaled, sums_at, sums_at]

end Cert.RowMean

end
-- ==== Proof.Mean.lean ====
module
public import proofs.«01_k».proof.Proof.Column
public import proofs.«01_k».proof.Proof.Gen.ReferenceIdeal.Run

/-!
# The reference, and the equation

Over the extended reals the reference's row `i` is the sum of the 512 entries of that row, divided by
512.  A row is split between the two devices of a mesh row, 256 entries each, so the sum is the sum
of the two half rows, in either order; and dividing by 512 is multiplying by one part in 512, on the
infinities too.
-/

@[expose] public section

noncomputable section

namespace Cert.RowMean

open Idealize.ShloMosaic Idealize.ShloMosaic.TcCoe
open Cert.ReferenceIdeal (S1024x512 S1024x1)
open Cert.KernelIdeal (S512x256 S512x1)

/-- The reference's divisor is 512. -/
theorem count_value : Ideal.ofBits .f32 0x44000000#32 = ((512 : ℝ) : EReal) := by
  simp [Ideal.ofBits, Ideal.ieee, -EReal.coe_mul]; norm_num

section
open Cert.ReferenceIdeal Cert.ReferenceIdeal.Gen

/-- What the reference computes from the whole argument: each row's sum over 512. -/
def mean (X : S1024x512.Idx → EReal) : S1024x1.Idx → EReal :=
  Host.divf (F := Ideal) (φ := .f32)
    (broadcastInDim S1024x1 ![0] bcast_S1024_S1024x1_0
      (Host.reduceAdd (F := Ideal) (φ := .f32) X (constant S_ .f32 0x00000000#32) reducesTo_S1024x512_S1024_d1 h_S_))
    (broadcastInDim S1024x1 ![] bcast_S_S1024x1 (constant (F := Ideal) S_ .f32 0x44000000#32))

/-- The reference at a row: one part in 512 of the row's sum. -/
theorem mean_at (X : S1024x512.Idx → EReal) (j : S1024x1.Idx) :
    mean X j = (∑ q : Fin 512, X (ix2 (j 0) q)) * ((1 / 512 : ℝ) : EReal) := by
  pointwise [mean]
  rw [count_value, Ideal.div_coe (by norm_num)]

end

/-- A sum over 512 entries is the sum over the first 256 plus the sum over the rest. -/
theorem sum_halves (f : Fin 512 → EReal) :
    ∑ q, f q = (∑ l : Fin 256, f ⟨l.val, by omega⟩) + ∑ l : Fin 256, f ⟨256 + l.val, by omega⟩ :=
  Fin.sum_univ_add (a := 256) (b := 256) f

/-- The part of the whole argument that device `c` holds. -/
abbrev argPart (c : Dev Cert.KernelIdeal.nD) (X : S1024x512.Idx → EReal) : S512x256.Idx → EReal :=
  Layout.blockN ⟨2, ![512, 256]⟩ ⟨2, ![1024, 512]⟩ (Layout.meshBlock [2, 2] ![[0], [1]] c) X

/-- The part of the whole result that device `c` holds. -/
abbrev resPart (c : Dev Cert.KernelIdeal.nD) (Y : S1024x1.Idx → EReal) : S512x1.Idx → EReal :=
  Layout.blockN ⟨2, ![512, 1]⟩ ⟨2, ![1024, 1]⟩ (Layout.meshBlock [2, 2] ![[0], []] c) Y

/-- Row `i` of the blocks of device `c`'s mesh row is this row of the whole argument. -/
def wholeRow (c : Dev Cert.KernelIdeal.nD) (i : Fin 512) : Fin 1024 :=
  ⟨512 * (c.val / 2) + i.val, by have h : c.val < 4 := c.isLt; omega⟩

/-- Entry `l` of a row of device `c`'s block is this entry of the whole row. -/
def wholeColumn (c : Dev Cert.KernelIdeal.nD) (l : Fin 256) : Fin 512 :=
  ⟨256 * (c.val % 2) + l.val, by omega⟩

/-- A device's part of the argument, entry by entry. -/
theorem argPart_at (c : Dev Cert.KernelIdeal.nD) (X : S1024x512.Idx → EReal) (i : Fin 512) (l : Fin 256) :
    argPart c X (ix2 i l) = X (ix2 (wholeRow c i) (wholeColumn c l)) := by
  refine congrArg X (funext fun b => Fin.ext ?_)
  rw [Layout.TilesN.idx_val]
  fin_cases c <;> fin_cases b <;> simp [Layout.meshLin, Layout.meshCoord, wholeRow, wholeColumn, Layout.cutSize] <;> rfl

/-- A device's part of the result, row by row. -/
theorem resPart_at (c : Dev Cert.KernelIdeal.nD) (X : S1024x512.Idx → EReal) (i : S512x1.Idx) :
    resPart c (mean X) i = (∑ q : Fin 512, X (ix2 (wholeRow c (i 0)) q)) * ((1 / 512 : ℝ) : EReal) := by
  refine (mean_at X _).trans ?_
  refine congrArg (· * _) (Finset.sum_congr rfl fun q _ => congrArg (fun p => X (ix2 p q)) (Fin.ext ?_))
  fin_cases c <;> simp [Layout.TilesN.idx, Layout.meshLin, Layout.meshCoord, wholeRow, Layout.cutSize]

/-- The row sums of a device's part and of its peer's part make up the sum of the whole row. -/
theorem row_split (c : Dev Cert.KernelIdeal.nD) (X : S1024x512.Idx → EReal) (i : Fin 512) :
    lineSum (argPart c X) i + lineSum (argPart (peer c) X) i = ∑ q : Fin 512, X (ix2 (wholeRow c i) q) := by
  unfold lineSum
  simp only [argPart_at]
  rw [sum_halves]
  fin_cases c
  · rfl
  · exact add_comm _ _
  · rfl
  · exact add_comm _ _

/-- The equation: from parts of one whole argument, every device stores its part of the reference's
result. -/
theorem outAt_mean (m : (ℓ : Loc Cert.KernelIdeal.nD Cert.KernelIdeal.τ Cert.KernelIdeal.sig) → Buf (Elt Ideal) ℓ)
    (ρ : Dev Cert.KernelIdeal.nD → PrngReg) (X : S1024x512.Idx → EReal) (h : ∀ c, argAt m c = argPart c X)
    (c : Dev Cert.KernelIdeal.nD) : outAt m ρ c = resPart c (mean X) := by
  funext i
  rw [resPart_at, outAt_at, h, h]
  exact congrArg (· * _) (row_split c X (i 0))

end Cert.RowMean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mean
public import Idealize.ShloMosaic.Adequacy
public import Idealize.ShloMosaic.Init

@[expose] public section

noncomputable section

namespace Cert.Proof

open Idealize.ShloMosaic Idealize.SL.Sem Cert.Kernel

/-- The kernel at any float values ends with its argument kept and its counters at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c).2, h.2⟩) (Cert.RowMean.run_column m ρ)

/-- The kernel and its idealization are one text: the same body at the one label. -/
theorem bodies_same {F : FTy → Type} [FloatOps F] :
    Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl

/-- So their tables are the same. -/
theorem tables_same {F : FTy → Type} [FloatOps F] :
    Cert.KernelIdeal.defs (F := F) = Cert.Kernel.defs (F := F) :=
  congrArg (Pipeline.defs Cert.KernelIdeal.pcfgs) bodies_same.symm

/-- The kernel at bit patterns. -/
theorem frame_kernel : Cert.quiescent_Kernel := fun m ρ _ => by
  have h := frame_any (F := Bits) m ρ
  rw [tables_same] at h
  exact h

/-- The idealization, at extended reals. -/
theorem frame_ideal : Cert.quiescent_KernelIdeal := fun m ρ _ => frame_any (F := Ideal) m ρ

/-- The reference keeps its argument, and has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From parts of one whole argument, every device ends holding its part of what the reference ends
holding: the mean of each row. -/
theorem value : Cert.algebraic_KernelIdeal_ReferenceIdeal := fun m ρ m' ρ' _ hm =>
  ⟨Cert.RowMean.mean (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.RowMean.outAt_mean m ρ _ hm c), (h.1 c).2⟩)
      (Cert.RowMean.run_column (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_ideal, frame_reference, trivial, value⟩

end Cert.Proof

end
